-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x16384 : Shape := ⟨2, ![4096, 16384]⟩
abbrev S512x640 : Shape := ⟨2, ![512, 640]⟩
abbrev S_ : Shape := ⟨0, ![]⟩
abbrev S512x512 : Shape := ⟨2, ![512, 512]⟩
abbrev S512x128 : Shape := ⟨2, ![512, 128]⟩

abbrev nBuf : Space → Nat
  | .hbm => 10
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S512x640, .i32⟩
  | .hbm, ⟨2, _⟩ => ⟨S512x640, .i32⟩
  | .hbm, ⟨3, _⟩ => ⟨S512x640, .i1⟩
  | .hbm, ⟨4, _⟩ => ⟨S_, .i32⟩
  | .hbm, ⟨5, _⟩ => ⟨S512x640, .i32⟩
  | .hbm, ⟨6, _⟩ => ⟨S512x640, .i1⟩
  | .hbm, ⟨7, _⟩ => ⟨S512x640, .i1⟩
  | .hbm, ⟨8, _⟩ => ⟨S512x640, .bf16⟩
  | .hbm, ⟨9, _⟩ => ⟨S4096x16384, .f32⟩
  | .local _ .vmem, ⟨0, _⟩ => ⟨S512x512, .f32⟩
  | .local _ .vmem, ⟨1, _⟩ => ⟨S512x512, .f32⟩
  | .local _ .vmem, ⟨2, _⟩ => ⟨S512x640, .bf16⟩
  | .local _ .vmem, ⟨3, _⟩ => ⟨S512x512, .f32⟩
  | .local _ .vmem, ⟨4, _⟩ => ⟨S512x512, .f32⟩
  | .local _ .vmem, ⟨5, _⟩ => ⟨S512x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x16384 : Shape := ⟨2, ![4096, 16384]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S_, .f32⟩
  | .hbm, ⟨3, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Body.lean ====
/-
  Hand-written, untrusted. WHAT ONE RUN OF THE KERNEL'S BODY LEAVES, at any float instance: the output block and the
  carry, in the case that resets the carry first (`A`) and in the case that does not (`B`), as the body's own payloads of
  the input blocks and of the carry it found.
-/
module

public import proofs.«01_k».proof.Proof.Gen.KernelIdeal.Value

@[expose] public section

noncomputable section

namespace Cert.Proof.Body

open Idealize.ShloMosaic Idealize.ShloMosaic.TcCoe Idealize.SL.Sem
open Cert.KernelIdeal Cert.KernelIdeal.Gen

variable {F : FTy → Type} [FloatOps F]

/-- The offsets of a load or store of a whole block. -/
theorem noOffset : (![0, 0] : Fin 2 → ℕ) = fun _ => 0 := by
  funext a; fin_cases a <;> rfl

section
variable (c : Dev nD) (i : grid0.Coords) (a2 : Memref sig .tc .vmem S512x512 .f32) (h2 : a2.IsWhole)
  (a3 : Memref sig .tc .vmem S512x640 .bf16) (h3 : a3.IsWhole) (a4 : Memref sig .tc .vmem S512x512 .f32) (h4 : a4.IsWhole)
  (a5 : Memref sig .tc .vmem S512x128 .f32) (h5 : a5.IsWhole)

/-- Carrying on: the output block is the product's left part plus the carry found. -/
theorem out_B (hc : ¬cond0_0 i) (x : Vec F S512x512 .f32) (w : Vec F S512x640 .bf16) (s : Vec F S512x128 .f32) :
    out0_B_2 c i a2 h2 a3 h3 a4 h4 a5 h5 hc x w s = k0_pay3 x w s := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S512x512) noOffset]
  simp only [View.readAt_eq_ld, h2.read_unread, h3.read_unread, h5.read_unread, View.ld_unit_zero (S := S512x512) noOffset,
    View.ld_unit_zero (S := S512x640) noOffset, View.ld_unit_zero (S := S512x128) noOffset]

/-- Carrying on: the new carry is the carry found plus the product's right part. -/
theorem carry_B (hc : ¬cond0_0 i) (x : Vec F S512x512 .f32) (w : Vec F S512x640 .bf16) (s : Vec F S512x128 .f32) :
    sout0_B_0 c i a2 h2 a3 h3 a4 h4 a5 h5 hc x w s = k0_pay4 x w s := by
  unfold sout0_B_0
  rw [View.read_writes_eq_canon _ _ _ (scover0_B_0 c i a2 h2 a3 h3 a4 h4 a5 h5 hc x w s)]
  unfold kernelRun0_B
  dsimp only
  sl_unfold_words
  rw [View.canon_unit_zero (S := S512x128) noOffset]
  simp only [View.readAt_eq_ld, h2.read_unread, h3.read_unread, h5.read_unread, View.ld_unit_zero (S := S512x512) noOffset,
    View.ld_unit_zero (S := S512x640) noOffset, View.ld_unit_zero (S := S512x128) noOffset]

/-- At the start of a row block: the same output block, over the zero carry just stored. -/
theorem out_A (hc : cond0_0 i) (x : Vec F S512x512 .f32) (w : Vec F S512x640 .bf16) :
    out0_A_2 c i a2 h2 a3 h3 a4 h4 a5 h5 hc x w = k0_pay3 x w k0_pay1 := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S512x512) noOffset]
  simp only [View.readCov_unit_zero (S := S512x128) _ noOffset, View.readAt_eq_ld, h2.read_unread, h3.read_unread,
    View.ld_unit_zero (S := S512x512) noOffset, View.ld_unit_zero (S := S512x640) noOffset]

/-- At the start of a row block: the same new carry, over the zero carry just stored. -/
theorem carry_A (hc : cond0_0 i) (x : Vec F S512x512 .f32) (w : Vec F S512x640 .bf16) :
    sout0_A_0 c i a2 h2 a3 h3 a4 h4 a5 h5 hc x w = k0_pay4 x w k0_pay1 := by
  unfold sout0_A_0
  rw [View.read_writes_eq_canon _ _ _ (scover0_A_0 c i a2 h2 a3 h3 a4 h4 a5 h5 hc x w)]
  unfold kernelRun0_A
  dsimp only
  sl_unfold_words
  rw [View.canon_cons_unit_zero (S := S512x128) noOffset]
  simp only [View.readCov_unit_zero (S := S512x128) _ noOffset, View.readAt_eq_ld, h2.read_unread, h3.read_unread,
    View.ld_unit_zero (S := S512x512) noOffset, View.ld_unit_zero (S := S512x640) noOffset]

end

variable (m : (ℓ : Loc nD τ sig) → Buf (Elt F) ℓ)

/-- What the carry holds before the body reads it at point `n`: zero where a row block starts, else what the point
    before left. -/
def carryIn (c : Dev nD) : (n : ℕ) → n < cfg0.N → Vec F S512x128 .f32
  | 0, _ => k0_pay1
  | n + 1, hn => if (n + 1) % 32 = 0 then k0_pay1 else (outsAt0 m c n (Nat.lt_of_succ_lt hn)).2

/-- What point `n` leaves in the output block and in the carry: the two payloads of its input blocks and of the carry
    it reads. -/
theorem outs_eq (c : Dev nD) (n : ℕ) (hn : n < cfg0.N) :
    outsAt0 m c n hn = (k0_pay3 (iblk m c 0 ⟨n, hn⟩) (iblk m c 1 ⟨n, hn⟩) (carryIn m c n hn),
      k0_pay4 (iblk m c 0 ⟨n, hn⟩) (iblk m c 1 ⟨n, hn⟩) (carryIn m c n hn)) := by
  by_cases h0 : n % 32 = 0
  · have e : carryIn m c n hn = k0_pay1 := by
      cases n with
      | zero => rfl
      | succ n => exact if_pos h0
    rw [e, outsAt0_A m c ⟨n, hn⟩ h0, out_A, carry_A]
  · cases n with
    | zero => exact absurd rfl h0
    | succ n =>
      have e : carryIn m c (n + 1) hn = (outsAt0 m c n (Nat.lt_of_succ_lt hn)).2 := if_neg h0
      rw [e, outsAt0_B m c ⟨n + 1, hn⟩ h0, out_B, carry_B]
      rfl

end Cert.Proof.Body

end
-- ==== Proof.Prefix.lean ====
/-
  Hand-written, untrusted. PREFIX SUMS of a row over the extended reals, away from any program:
  a row of a matrix as a sequence, the product of a block of it with a triangular matrix of ones,
  and what the host's `cumsum` along the rows computes.
-/
module

public import Idealize.ShloMosaic.Lib.Pointwise

@[expose] public section

noncomputable section

namespace Cert.Proof.Prefix

open Idealize.ShloMosaic
open scoped BigOperators

/-- Row `i` of a matrix as a sequence, zero past the row's end. -/
def rowSeq {A B : ℕ} (x : (⟨2, ![A, B]⟩ : Shape).Idx → EReal) (i : Fin A) (k : ℕ) : EReal :=
  if h : k < B then x (ix2 i ⟨k, h⟩) else 0

/-- Inside the row the sequence is the matrix's element. -/
theorem rowSeq_of_lt {A B : ℕ} (x : (⟨2, ![A, B]⟩ : Shape).Idx → EReal) (i : Fin A) {k : ℕ} (h : k < B) :
    rowSeq x i k = x (ix2 i ⟨k, h⟩) := dif_pos h

/-- The sum of a sequence's first `n` terms. -/
def pre (s : ℕ → EReal) (n : ℕ) : EReal := ∑ k ∈ Finset.range n, s k

/-- A prefix followed by the `b` terms after it is the longer prefix. -/
theorem pre_add (s : ℕ → EReal) (a b : ℕ) : pre s (a + b) = pre s a + pre (fun k => s (a + k)) b :=
  Finset.sum_range_add s a b

/-- A sum of `n` terms against the indicator of the first `b` of them is the prefix of length `b`. -/
theorem sum_mul_indicator (s : ℕ → EReal) {n b : ℕ} (hb : b ≤ n) :
    ∑ k : Fin n, s k.val * (if k.val < b then (1 : EReal) else 0) = pre s b := by
  obtain ⟨d, rfl⟩ := Nat.exists_eq_add_of_le hb
  rw [Fin.sum_univ_eq_sum_range (fun k : ℕ => s k * (if k < b then (1 : EReal) else 0)) (b + d), Finset.sum_range_add]
  have hlow : ∀ k ∈ Finset.range b, s k * (if k < b then (1 : EReal) else 0) = s k := fun k hk => by
    rw [if_pos (Finset.mem_range.1 hk), mul_one]
  have hhigh : ∀ k ∈ Finset.range d, s (b + k) * (if b + k < b then (1 : EReal) else 0) = 0 := fun k _ => by
    rw [if_neg (by omega), mul_zero]
  rw [Finset.sum_congr rfl hlow, Finset.sum_eq_zero hhigh, add_zero]
  rfl

/-- A left fold of additions from zero over all of `Fin n` is the sum. -/
theorem foldl_add_finRange {n : ℕ} (g : Fin n → EReal) (v : EReal) :
    (List.finRange n).foldl (fun r k => r + g k) v = v + ∑ k, g k := by
  have aux : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [aux, Fin.sum_univ_def]

/-- The window of width `N + 1` that ends at column `j`, its columns left of the matrix being zero, sums to the
    prefix of length `j + 1`. -/
theorem sum_window (s : ℕ → EReal) {N j : ℕ} (hj : j ≤ N) :
    ∑ b : Fin (N + 1), (if N ≤ j + b.val then s (j + b.val - N) else 0) = pre s (j + 1) := by
  rw [Fin.sum_univ_eq_sum_range (fun b : ℕ => if N ≤ j + b then s (j + b - N) else (0 : EReal)) (N + 1),
    show N + 1 = (N - j) + (j + 1) by omega, Finset.sum_range_add]
  have hpad : ∀ b ∈ Finset.range (N - j), (if N ≤ j + b then s (j + b - N) else (0 : EReal)) = 0 := fun b hb =>
    if_neg (by have := Finset.mem_range.1 hb; omega)
  have hin : ∀ b ∈ Finset.range (j + 1), (if N ≤ j + (N - j + b) then s (j + (N - j + b) - N) else (0 : EReal)) = s b :=
    fun b _ => by rw [if_pos (by omega), show j + (N - j + b) - N = b by omega]
  rw [Finset.sum_eq_zero hpad, zero_add, Finset.sum_congr rfl hin]
  rfl

/-- The host's window sum as `cumsum(axis=1)` prints it — windows of one row and the whole width, padded on the left
    with zeros — holds at `(i, j)` the sum of row `i` up to and including column `j`. -/
theorem windowSum_apply {A N : ℕ} (x : (⟨2, ![A, N + 1]⟩ : Shape).Idx → EReal) {u : Shape} (init : u.Idx → EReal)
    (h : (⟨2, ![A, N + 1]⟩ : Shape).ReduceWindows (![1, N + 1] : Fin 2 → ℕ) ![1, 1] ![0, N] ![0, 0] ⟨2, ![A, N + 1]⟩)
    (hu : 0 < u.numel) (h0 : init (Shape.Idx.first hu) = 0) (i : Fin A) (j : Fin (N + 1)) :
    Host.reduceWindow (· + ·) ![1, N + 1] ![1, 1] ![0, N] ![0, 0] x init h hu (ix2 i j) = pre (rowSeq x i) (j.val + 1) := by
  unfold Host.reduceWindow
  dsimp only
  rw [h0, foldl_add_finRange, zero_add]
  have hj := j.isLt
  -- one position `q` of the window: the matrix's element there, or padding
  refine (Finset.sum_congr rfl fun n _ => ?_).trans ((Equiv.sum_comp ((⟨2, ![1, N + 1]⟩ : Shape).rowMajor.symm)
    (fun q : (⟨2, ![1, N + 1]⟩ : Shape).Idx => if N ≤ j.val + (q 1).val then rowSeq x i (j.val + (q 1).val - N) else 0)).trans ?_)
  · have hq0 : (((⟨2, ![1, N + 1]⟩ : Shape).rowMajor.symm n) 0).val < 1 := (((⟨2, ![1, N + 1]⟩ : Shape).rowMajor.symm n) 0).isLt
    have hq1 : (((⟨2, ![1, N + 1]⟩ : Shape).rowMajor.symm n) 1).val < N + 1 := (((⟨2, ![1, N + 1]⟩ : Shape).rowMajor.symm n) 1).isLt
    dsimp only
    by_cases hc : N ≤ j.val + (((⟨2, ![1, N + 1]⟩ : Shape).rowMajor.symm n) 1).val
    · rw [if_pos hc, rowSeq_of_lt x i (show j.val + (((⟨2, ![1, N + 1]⟩ : Shape).rowMajor.symm n) 1).val - N < N + 1 by omega), dif_pos]
      · refine congrArg x (funext fun a => Fin.ext ?_)
        match a with
        | ⟨0, _⟩ => show i.val * 1 + (((⟨2, ![1, N + 1]⟩ : Shape).rowMajor.symm n) 0).val - 0 = i.val; omega
        | ⟨1, _⟩ => show j.val * 1 + (((⟨2, ![1, N + 1]⟩ : Shape).rowMajor.symm n) 1).val - N = j.val + (((⟨2, ![1, N + 1]⟩ : Shape).rowMajor.symm n) 1).val - N; omega
      · intro a
        match a with
        | ⟨0, _⟩ => exact ⟨Nat.zero_le _, by show i.val * 1 + (((⟨2, ![1, N + 1]⟩ : Shape).rowMajor.symm n) 0).val - 0 < A; have := i.isLt; omega⟩
        | ⟨1, _⟩ => exact ⟨by show N ≤ j.val * 1 + (((⟨2, ![1, N + 1]⟩ : Shape).rowMajor.symm n) 1).val; omega, by show j.val * 1 + (((⟨2, ![1, N + 1]⟩ : Shape).rowMajor.symm n) 1).val - N < N + 1; omega⟩
    · rw [if_neg hc, dif_neg]
      intro hin
      have h1 : N ≤ j.val * 1 + (((⟨2, ![1, N + 1]⟩ : Shape).rowMajor.symm n) 1).val := (hin 1).1
      omega
  · rw [sum_idx2, Fin.sum_univ_one]
    exact sum_window (rowSeq x i) (Nat.le_of_lt_succ j.isLt)

end Cert.Proof.Prefix

end
-- ==== Proof.Inputs.lean ====
/-
  Hand-written, untrusted. WHAT THE BODY READS at a grid point, over the extended reals: a block of the argument, and
  the whole matrix of zeros and ones that the host builds before the call.
-/
module

public import proofs.«01_k».proof.Proof.Gen.KernelIdeal.Value
public import proofs.«01_k».proof.Proof.Prefix
public import Idealize.ShloMosaic.Lib.WordCmp

@[expose] public section

set_option maxRecDepth 16384

noncomputable section

namespace Cert.Proof.Inputs

open Idealize.ShloMosaic Idealize.ShloMosaic.TcCoe Idealize.SL.Sem
open Cert.KernelIdeal Cert.KernelIdeal.Gen
open Cert.Proof.Prefix

variable (m : (ℓ : Loc nD τ sig) → Buf (Elt Ideal) ℓ) (c : Dev nD)

/-- The kernel's argument on device `c`. -/
abbrev arg : (⟨2, ![4096, 16384]⟩ : Shape).Idx → EReal := m ((c : Thread nD τ).loc main_arg0)

/-- The argument's window at point `t` is at block row `t / 32`, block column `t % 32`. -/
theorem argIndex (t : Fin cfg0.N) : win0_0.index t 0 = t.val / 32 ∧ win0_0.index t 1 = t.val % 32 := by
  have ht : t.val < 256 := Nat.lt_of_lt_of_eq t.isLt N_0
  have e0 : (grid0.coords t 0).val = t.val / 32 % 8 := Pipeline.Grid.coords_val t 0 (by decide) rfl
  have e1 : (grid0.coords t 1).val = t.val / 1 % 32 := Pipeline.Grid.coords_val t 1 (by decide) rfl
  constructor
  · show (BitVec.ofNat 32 (grid0.coords t 0).val).toNat = _
    rw [e0, BitVec.toNat_ofNat]; omega
  · show (BitVec.ofNat 32 (grid0.coords t 1).val).toNat = _
    rw [e1, BitVec.toNat_ofNat]; omega

/-- Row `r`, column `k` of the argument's block at point `t` is the argument at row `512 · (t / 32) + r`, column
    `512 · (t % 32) + k`. -/
theorem argBlock_apply (t : Fin cfg0.N) (r k : Fin 512) (i : Fin 4096) (hi : i.val = 512 * (t.val / 32) + r.val) :
    (iblk m c 0 t : Vec Ideal S512x512 .f32) (ix2 r k) = rowSeq (arg m c) i (512 * (t.val % 32) + k.val) := by
  have hk := k.isLt
  have hlt : 512 * (t.val % 32) + k.val < 16384 := by omega
  rw [rowSeq_of_lt (arg m c) i hlt]
  unfold iblk
  rw [View.read_apply]
  show V m c main_arg0 _ = _
  rw [V_main_arg0]
  refine congrArg (arg m c) (funext fun a => Fin.ext ?_)
  match a with
  | ⟨0, _⟩ => show win0_0.index t 0 * 512 + 1 * r.val = i.val; rw [(argIndex t).1, hi]; omega
  | ⟨1, _⟩ => show win0_0.index t 1 * 512 + 1 * k.val = 512 * (t.val % 32) + k.val; rw [(argIndex t).2]; omega

/-- The host's matrix as the region finds it: the conversion of "row ≤ column, or column ≥ 512". -/
theorem ones_term : V m c main_v6 = uitofp (F := Ideal) .bf16
    (ori (cmpi .sle (iotaInDim S512x640 32 0) (iotaInDim S512x640 32 1))
      (cmpi .sge (iotaInDim S512x640 32 1) (broadcastInDim S512x640 ![] bcast_S_S512x640 (constantI S_ 32 512#32)))) := by
  unfold V
  after_results

/-- The matrix block, at every point: one in row `k`, column `n` where `k ≤ n` or `512 ≤ n`, else zero. -/
theorem onesBlock_apply (t : Fin cfg0.N) (k : Fin 512) (n : Fin 640) :
    (iblk m c 1 t : Vec Ideal S512x640 .bf16) (ix2 k n) = if k.val ≤ n.val ∨ 512 ≤ n.val then (1 : EReal) else (0 : EReal) := by
  have hidx : win0_1.index t 0 = 0 ∧ win0_1.index t 1 = 0 := ⟨rfl, rfl⟩
  have e : (iblk m c 1 t : Vec Ideal S512x640 .bf16) (ix2 k n) = V m c main_v6 (ix2 k n) := by
    unfold iblk
    rw [View.read_apply]
    refine congrArg (V m c main_v6) (funext fun a => Fin.ext ?_)
    match a with
    | ⟨0, _⟩ => show win0_1.index t 0 * 512 + 1 * k.val = k.val; rw [hidx.1]; omega
    | ⟨1, _⟩ => show win0_1.index t 1 * 640 + 1 * n.val = n.val; rw [hidx.2]; omega
  rw [e, ones_term]
  have hk := k.isLt
  have hn := n.isLt
  pointwise []
  rw [WordCmp.cmpi_sle_ofNat (by omega) (by omega), show 512#32 = BitVec.ofNat 32 512 from rfl, WordCmp.cmpi_sge_ofNat (by omega) (by omega),
    WordCmp.ori_ofBool, ← Bool.decide_or]
  by_cases h : k.val ≤ n.val ∨ 512 ≤ n.val
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

end Cert.Proof.Inputs

end
-- ==== Proof.Step.lean ====
/-
  Hand-written, untrusted. ONE BLOCK over the extended reals: what the body's payloads hold, element by element, when the
  input block is a stretch of rows, the matrix is the host's zeros and ones, and the carry is one number per row.
-/
module

public import proofs.«01_k».proof.Proof.Gen.KernelIdeal.Value
public import proofs.«01_k».proof.Proof.Prefix

@[expose] public section

set_option maxRecDepth 16384

noncomputable section

namespace Cert.Proof.Step

open Idealize.ShloMosaic Idealize.SL.Sem
open Cert.KernelIdeal Cert.KernelIdeal.Gen
open Cert.Proof.Prefix

variable (x : Vec Ideal S512x512 .f32) (w : Vec Ideal S512x640 .bf16)

/-- The reset value of the carry is zero. -/
theorem reset_apply (r : Fin 512) (g : Fin 128) : k0_pay1 (F := Ideal) (ix2 r g) = (0 : EReal) := by
  pointwise [k0_pay1]

/-- The block product: column `n` of row `r` is the sum of the row's terms that column `n` of the matrix selects; the
    first `n + 1` of them left of column 512, all of them from there on. -/
theorem product_apply (hw : ∀ (k : Fin 512) (n : Fin 640), w (ix2 k n) = if k.val ≤ n.val ∨ 512 ≤ n.val then (1 : EReal) else (0 : EReal))
    (s : ℕ → EReal) (r : Fin 512) (hx : ∀ k : Fin 512, x (ix2 r k) = s k.val) (n : Fin 640) :
    k0_pay2 x w (ix2 r n) = pre s (min (n.val + 1) 512) := by
  have e : k0_pay2 x w (ix2 r n) = ∑ k : Fin 512, x (ix2 r k) * w (ix2 k n) := by
    pointwise [k0_pay2]
  rw [e, ← sum_mul_indicator s (Nat.min_le_right (n.val + 1) 512)]
  refine Finset.sum_congr rfl fun k _ => ?_
  have hk := k.isLt
  rw [hx, hw]
  refine congrArg (s k.val * ·) ?_
  by_cases h : k.val ≤ n.val ∨ 512 ≤ n.val
  · rw [if_pos h, if_pos (by omega)]
  · rw [if_neg h, if_neg (by omega)]

variable (hw : ∀ (k : Fin 512) (n : Fin 640), w (ix2 k n) = if k.val ≤ n.val ∨ 512 ≤ n.val then (1 : EReal) else (0 : EReal))
  (s : ℕ → EReal) (r : Fin 512) (hx : ∀ k : Fin 512, x (ix2 r k) = s k.val) (v : Vec Ideal S512x128 .f32) (C : EReal)
  (hv : ∀ g : Fin 128, v (ix2 r g) = C)
include hw hx hv

/-- The output block: the block's own prefix sum, plus the row's carry. -/
theorem out_apply (l : Fin 512) : k0_pay3 x w v (ix2 r l) = pre s (l.val + 1) + C := by
  have hl := l.isLt
  have hp := product_apply x w hw s r hx ⟨l.val, by omega⟩
  rw [Nat.min_eq_left (show l.val + 1 ≤ 512 by omega)] at hp
  pointwise [k0_pay3]
  rw [hp]
  simp only [hv, dite_eq_ite, ite_self]

/-- The new carry: the carry plus the sum of the block's row. -/
theorem carry_apply (g : Fin 128) : k0_pay4 x w v (ix2 r g) = C + pre s 512 := by
  have hg := g.isLt
  have hp := product_apply x w hw s r hx ⟨512 + g.val, by omega⟩
  rw [Nat.min_eq_right (show 512 ≤ 512 + g.val + 1 by omega)] at hp
  pointwise [k0_pay4]
  rw [hp, hv]

end Cert.Proof.Step

end
-- ==== Proof.Value.lean ====
/-
  Hand-written, untrusted. THE WHOLE ARRAY: after the run the kernel's result holds at `(i, j)` the sum of row `i` of the
  argument up to and including column `j`; the host's `cumsum` holds the same.
-/
module

public import proofs.«01_k».proof.Proof.Body
public import proofs.«01_k».proof.Proof.Inputs
public import proofs.«01_k».proof.Proof.Step

@[expose] public section

set_option maxRecDepth 16384

noncomputable section

namespace Cert.Proof.Value

open Idealize.ShloMosaic Idealize.ShloMosaic.TcCoe Idealize.SL.Sem
open Cert.KernelIdeal Cert.KernelIdeal.Gen
open Cert.Proof.Prefix Cert.Proof.Body Cert.Proof.Inputs

variable (m : (ℓ : Loc nD τ sig) → Buf (Elt Ideal) ℓ) (c : Dev nD)

/-- The running row sums, row by row: what `jnp.cumsum(x, axis=1)` means over the extended reals. -/
def rowSums (x : (⟨2, ![4096, 16384]⟩ : Shape).Idx → EReal) : (⟨2, ![4096, 16384]⟩ : Shape).Idx → EReal :=
  fun y => pre (rowSeq x (y 0)) ((y 1).val + 1)

/-- The carry that point `n` reads is, in each lane, the sum of the row's columns left of the point's block. -/
theorem carryIn_apply : ∀ (n : ℕ) (hn : n < cfg0.N) (r : Fin 512) (g : Fin 128) (i : Fin 4096),
    i.val = 512 * (n / 32) + r.val →
    carryIn m c n hn (ix2 r g) = pre (rowSeq (arg m c) i) (512 * (n % 32))
  | 0, _, r, g, i, _ => Step.reset_apply r g
  | n + 1, hn, r, g, i, hi => by
    by_cases h0 : (n + 1) % 32 = 0
    · have e : carryIn m c (n + 1) hn = k0_pay1 (F := Ideal) := if_pos h0
      rw [e, h0]
      exact Step.reset_apply r g
    · have hn' : n < cfg0.N := Nat.lt_of_succ_lt hn
      have e : carryIn m c (n + 1) hn = (outsAt0 m c n hn').2 := if_neg h0
      have hi' : i.val = 512 * (n / 32) + r.val := by omega
      rw [e, outs_eq]
      dsimp only
      rw [Step.carry_apply (iblk m c 0 ⟨n, hn'⟩) (iblk m c 1 ⟨n, hn'⟩) (onesBlock_apply m c ⟨n, hn'⟩)
          (fun k => rowSeq (arg m c) i (512 * (n % 32) + k)) r (fun k => argBlock_apply m c ⟨n, hn'⟩ r k i hi')
          (carryIn m c n hn') (pre (rowSeq (arg m c) i) (512 * (n % 32)))
          (fun g' => carryIn_apply n hn' r g' i hi') g,
        ← pre_add, show (n + 1) % 32 = n % 32 + 1 by omega, Nat.mul_succ]

/-- The output block that point `n` leaves holds the row sums up to each of its columns. -/
theorem outBlock_apply (n : ℕ) (hn : n < cfg0.N) (r l : Fin 512) (i : Fin 4096) (hi : i.val = 512 * (n / 32) + r.val) :
    (outsAt0 m c n hn).1 (ix2 r l) = pre (rowSeq (arg m c) i) (512 * (n % 32) + (l.val + 1)) := by
  rw [outs_eq]
  dsimp only
  rw [Step.out_apply (iblk m c 0 ⟨n, hn⟩) (iblk m c 1 ⟨n, hn⟩) (onesBlock_apply m c ⟨n, hn⟩)
      (fun k => rowSeq (arg m c) i (512 * (n % 32) + k)) r (fun k => argBlock_apply m c ⟨n, hn⟩ r k i hi)
      (carryIn m c n hn) (pre (rowSeq (arg m c) i) (512 * (n % 32))) (fun g => carryIn_apply m c n hn r g i hi) l,
    add_comm, ← pre_add]

/-- The kernel's result array after the run. -/
theorem kernel_eq : Cert.KernelIdeal.Value.G2 m c = rowSums (arg m c) := by
  funext y
  have hy0 : (y 0).val < 4096 := (y 0).isLt
  have hy1 : (y 1).val < 16384 := (y 1).isLt
  have hN : cfg0.N = 256 := N_0
  have hpt : Cert.KernelIdeal.Value.pt2Of y = 32 * ((y 0).val / 512) + (y 1).val / 512 := by
    show 32 * ((y 0).val / 512 - 0) + 1 * ((y 1).val / 512 - 0) = _
    omega
  have hlt : Cert.KernelIdeal.Value.pt2Of y < cfg0.N := by rw [hpt]; omega
  unfold Cert.KernelIdeal.Value.G2
  rw [dif_pos hlt, ← Cert.KernelIdeal.Value.outsAt0_sweep m c _ hlt]
  have hloc : Cert.KernelIdeal.Value.loc2Of y = ix2 (⟨(y 0).val % 512, by omega⟩ : Fin 512) (⟨(y 1).val % 512, by omega⟩ : Fin 512) := by
    funext a
    match a with
    | ⟨0, _⟩ => rfl
    | ⟨1, _⟩ => rfl
  rw [hloc, outBlock_apply m c _ hlt _ _ (y 0) (by rw [hpt]; show (y 0).val = _ + (y 0).val % 512; omega), hpt]
  unfold rowSums
  refine congrArg (pre _) ?_
  show 512 * ((32 * ((y 0).val / 512) + (y 1).val / 512) % 32) + ((y 1).val % 512 + 1) = (y 1).val + 1
  omega

end Cert.Proof.Value

end
-- ==== Proof.Ref.lean ====
/-
  Hand-written, untrusted. THE REFERENCE: the host's window sum that `jnp.cumsum` prints is the running row sums.
-/
module

public import proofs.«01_k».proof.Proof.Gen.ReferenceIdeal.Run
public import proofs.«01_k».proof.Proof.Value

@[expose] public section

set_option maxRecDepth 16384

noncomputable section

namespace Cert.Proof.Ref

open Idealize.ShloMosaic Idealize.SL.Sem
open Cert.ReferenceIdeal Cert.ReferenceIdeal.Gen
open Cert.Proof.Prefix Cert.Proof.Value

/-- The host's window sum from zero, its window the whole row ending at the position: the row's sum up to there. -/
theorem hostWindowSum_apply {A M : ℕ} (N : ℕ) (hM : M = N + 1) (x : FVec Ideal ⟨2, ![A, M]⟩ .f32) (z : FVec Ideal S_ .f32)
    (h : (⟨2, ![A, M]⟩ : Shape).ReduceWindows (![1, M] : Fin 2 → ℕ) ![1, 1] ![0, N] ![0, 0] ⟨2, ![A, M]⟩)
    (hu : 0 < S_.numel) (h0 : z (Shape.Idx.first hu) = (0 : EReal)) (i : Fin A) (j : Fin M) :
    Host.reduceWindowAdd ![1, M] ![1, 1] ![0, N] ![0, 0] x z h hu (ix2 i j) = pre (rowSeq x i) (j.val + 1) := by
  subst hM
  exact windowSum_apply x (fun _ : (⟨0, ![]⟩ : Shape).Idx => z (Shape.Idx.first hu)) h (by decide) h0 i j

/-- The reference's result is the running row sums of its argument. -/
theorem reference_eq (x : FVec Ideal S4096x16384 .f32) :
    Host.reduceWindowAdd ![1, 16384] ![1, 1] ![0, 16383] ![0, 0] x
        (broadcastInDim S_ ![] bcast_S_S_ (constant (F := Ideal) S_ .f32 0x00000000#32))
        reduceWindows_S4096x16384_S4096x16384_w1s1p0_0_w16384s1p16383_0 h_S_
      = rowSums x := by
  funext y
  rw [eq_ix2 y]
  exact hostWindowSum_apply 16383 rfl x _ _ _ Ideal.ofBits_zero_f32 (y 0) (y 1)

end Cert.Proof.Ref

end
-- ==== Proof.lean ====
/-
  Hand-written, untrusted. The proof of `Cert.Claim` (proofs.«01_k».proof.Defs). The kernel's run and its result array as
  a fold over the grid are generated; that the fold leaves the running row sums is Proof/Value.lean (over Proof/Body.lean,
  Proof/Inputs.lean and Proof/Step.lean), that `jnp.cumsum` computes the same sums is Proof/Ref.lean (over
  Proof/Prefix.lean). Here the two runs are put side by side.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Value
public import proofs.«01_k».proof.Proof.Ref

@[expose] public section

noncomputable section

namespace Cert.Proof

open Idealize.ShloMosaic Idealize.SL.Sem

/-- The reference runs, leaves its argument alone and has no semaphore to leave raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array: both hold the running row sums of the argument. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  rw [hagree c]
  exact (Ref.reference_eq _).trans (Value.kernel_eq m c).symm

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
